-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x9216 : Shape := ⟨3, ![8, 256, 9216]⟩
abbrev S4608x1408 : Shape := ⟨2, ![4608, 1408]⟩
abbrev S72x1408 : Shape := ⟨2, ![72, 1408]⟩
abbrev S72x704 : Shape := ⟨2, ![72, 704]⟩
abbrev S2048x9216 : Shape := ⟨2, ![2048, 9216]⟩
abbrev S2048x1408 : Shape := ⟨2, ![2048, 1408]⟩
abbrev S256x9216 : Shape := ⟨2, ![256, 9216]⟩
abbrev S256x1408 : Shape := ⟨2, ![256, 1408]⟩
abbrev S9216x1408 : Shape := ⟨2, ![9216, 1408]⟩
abbrev S72x128 : Shape := ⟨2, ![72, 128]⟩
abbrev S72x128x1 : Shape := ⟨3, ![72, 128, 1]⟩
abbrev S72x64 : Shape := ⟨2, ![72, 64]⟩
abbrev S128x1408 : Shape := ⟨2, ![128, 1408]⟩
abbrev S32x1408 : Shape := ⟨2, ![32, 1408]⟩
abbrev S1x1408 : Shape := ⟨2, ![1, 1408]⟩
abbrev S8x256x1408 : Shape := ⟨3, ![8, 256, 1408]⟩

abbrev nBuf : Space → Nat
  | .hbm => 7
  | .vmem => 10
  | .smem => 0
  | _ => 0

abbrev bufTy : (tb : Table) → Fin (tcTables nBuf tb) → BufTy
  | .hbm, ⟨0, _⟩ => ⟨S8x256x9216, .bf16⟩
  | .hbm, ⟨1, _⟩ => ⟨S4608x1408, .i8⟩
  | .hbm, ⟨2, _⟩ => ⟨S72x1408, .bf16⟩
  | .hbm, ⟨3, _⟩ => ⟨S72x704, .i8⟩
  | .hbm, ⟨4, _⟩ => ⟨S2048x9216, .bf16⟩
  | .hbm, ⟨5, _⟩ => ⟨S2048x1408, .bf16⟩
  | .hbm, ⟨6, _⟩ => ⟨S8x256x1408, .bf16⟩
  | .local _ .vmem, ⟨0, _⟩ => ⟨S256x9216, .bf16⟩
  | .local _ .vmem, ⟨1, _⟩ => ⟨S256x9216, .bf16⟩
  | .local _ .vmem, ⟨2, _⟩ => ⟨S4608x1408, .i8⟩
  | .local _ .vmem, ⟨3, _⟩ => ⟨S72x1408, .bf16⟩
  | .local _ .vmem, ⟨4, _⟩ => ⟨S72x704, .i8⟩
  | .local _ .vmem, ⟨5, _⟩ => ⟨S256x1408, .bf16⟩
  | .local _ .vmem, ⟨6, _⟩ => ⟨S256x1408, .bf16⟩
  | .local _ .vmem, ⟨7, _⟩ => ⟨S9216x1408, .bf16⟩
  | .local _ .vmem, ⟨8, _⟩ => ⟨S72x1408, .f32⟩
  | .local _ .vmem, ⟨9, _⟩ => ⟨S72x1408, .f32⟩
  | _, _ => ⟨S8x256x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_227 : BitVec 32 := 0#32
  let c36_i32 : BitVec 32 := 36#32
  let v700 : BitVec 32 := Scalar.addi c0_i32_227 c36_i32
  let c1_i32_228 : BitVec 32 := 1#32
  ⟨c0_i32_227, v700, c1_i32_228⟩
def k0_mult1 (k0_t1 : Fin k0_t1_loop.trips) : BitVec 32 :=
  let c0_i32_231 : BitVec 32 := 0#32
  let c0_i32_227 : BitVec 32 := 0#32
  let c1_i32_228 : BitVec 32 := 1#32
  let arg9 : BitVec 32 := Scf.iv c0_i32_227 c1_i32_228 k0_t1
  let c1_i32_230 : BitVec 32 := 1#32
  let v701 : BitVec 32 := Scalar.muli arg9 c1_i32_230
  let v702 : BitVec 32 := Scalar.addi c0_i32_231 v701
  let c128_i32_232 : BitVec 32 := 128#32
  let v703 : BitVec 32 := Scalar.muli v702 c128_i32_232
  v703
def k0_off1 (k0_t1 : Fin k0_t1_loop.trips) : Fin 2 → Nat :=
  let c0_i32_231 : BitVec 32 := 0#32
  let c0_i32_227 : BitVec 32 := 0#32
  let c1_i32_228 : BitVec 32 := 1#32
  let arg9 : BitVec 32 := Scf.iv c0_i32_227 c1_i32_228 k0_t1
  let c1_i32_230 : BitVec 32 := 1#32
  let v701 : BitVec 32 := Scalar.muli arg9 c1_i32_230
  let v702 : BitVec 32 := Scalar.addi c0_i32_231 v701
  let c128_i32_232 : BitVec 32 := 128#32
  let v703 : BitVec 32 := Scalar.muli v702 c128_i32_232
  let v704 : BitVec 32 := v703
  let v705 : Index := Scalar.indexCast v704
  let c0_233 : Index := 0#32
  ![v705.toNat, 0]
def k0_off2 (k0_t1 : Fin k0_t1_loop.trips) (c0_i32_235 : BitVec 32) : Fin 2 → Nat :=
  let c0_i32_231 : BitVec 32 := 0#32
  let c0_i32_227 : BitVec 32 := 0#32
  let c1_i32_228 : BitVec 32 := 1#32
  let arg9 : BitVec 32 := Scf.iv c0_i32_227 c1_i32_228 k0_t1
  let c1_i32_230 : BitVec 32 := 1#32
  let v701 : BitVec 32 := Scalar.muli arg9 c1_i32_230
  let v702 : BitVec 32 := Scalar.addi c0_i32_231 v701
  let v713 : BitVec 32 := Scalar.addi v702 c0_i32_235
  let v714 : Index := Scalar.indexCast v713
  let c0_236 : Index := 0#32
  ![v714.toNat, 0]
def k0_off3 (k0_t1 : Fin k0_t1_loop.trips) (c0_i32_238 : BitVec 32) : Fin 2 → Nat :=
  let c0_i32_231 : BitVec 32 := 0#32
  let c0_i32_227 : BitVec 32 := 0#32
  let c1_i32_228 : BitVec 32 := 1#32
  let arg9 : BitVec 32 := Scf.iv c0_i32_227 c1_i32_228 k0_t1
  let c1_i32_230 : BitVec 32 := 1#32
  let v701 : BitVec 32 := Scalar.muli arg9 c1_i32_230
  let v702 : BitVec 32 := Scalar.addi c0_i32_231 v701
  let c128_i32_232 : BitVec 32 := 128#32
  let v703 : BitVec 32 := Scalar.muli v702 c128_i32_232
  let v704 : BitVec 32 := v703
  let v725 : BitVec 32 := Scalar.addi v704 c0_i32_238
  let v726 : Index := Scalar.indexCast v725
  let c0_239 : Index := 0#32
  ![v726.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x1408 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S72x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S72x704 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x256x9216 : Shape := ⟨3, ![8, 256, 9216]⟩
abbrev S4608x1408 : Shape := ⟨2, ![4608, 1408]⟩
abbrev S72x1408 : Shape := ⟨2, ![72, 1408]⟩
abbrev S72x704 : Shape := ⟨2, ![72, 704]⟩
abbrev S_ : Shape := ⟨0, ![]⟩
abbrev S72x704x1 : Shape := ⟨3, ![72, 704, 1]⟩
abbrev S72x704x2 : Shape := ⟨3, ![72, 704, 2]⟩
abbrev S36x1408 : Shape := ⟨2, ![36, 1408]⟩
abbrev S36x128x1408 : Shape := ⟨3, ![36, 128, 1408]⟩
abbrev S36x1x1408 : Shape := ⟨3, ![36, 1, 1408]⟩
abbrev S8x256x4608 : Shape := ⟨3, ![8, 256, 4608]⟩
abbrev S8x256x1408 : Shape := ⟨3, ![8, 256, 1408]⟩

abbrev nBuf : Space → Nat
  | .hbm => 51
  | .vmem => 0
  | .smem => 0
  | _ => 0

abbrev bufTy : (tb : Table) → Fin (tcTables nBuf tb) → BufTy
  | .hbm, ⟨0, _⟩ => ⟨S8x256x9216, .bf16⟩
  | .hbm, ⟨1, _⟩ => ⟨S4608x1408, .i8⟩
  | .hbm, ⟨2, _⟩ => ⟨S72x1408, .bf16⟩
  | .hbm, ⟨3, _⟩ => ⟨S72x704, .i8⟩
  | .hbm, ⟨4, _⟩ => ⟨S4608x1408, .i32⟩
  | .hbm, ⟨5, _⟩ => ⟨S72x704, .i32⟩
  | .hbm, ⟨6, _⟩ => ⟨S_, .i32⟩
  | .hbm, ⟨7, _⟩ => ⟨S4608x1408, .i32⟩
  | .hbm, ⟨8, _⟩ => ⟨S4608x1408, .i32⟩
  | .hbm, ⟨9, _⟩ => ⟨S_, .i32⟩
  | .hbm, ⟨10, _⟩ => ⟨S4608x1408, .i32⟩
  | .hbm, ⟨11, _⟩ => ⟨S4608x1408, .i32⟩
  | .hbm, ⟨12, _⟩ => ⟨S_, .i32⟩
  | .hbm, ⟨13, _⟩ => ⟨S72x704, .i32⟩
  | .hbm, ⟨14, _⟩ => ⟨S72x704, .i32⟩
  | .hbm, ⟨15, _⟩ => ⟨S_, .i32⟩
  | .hbm, ⟨16, _⟩ => ⟨S72x704, .i32⟩
  | .hbm, ⟨17, _⟩ => ⟨S72x704, .i32⟩
  | .hbm, ⟨18, _⟩ => ⟨S72x704x1, .i32⟩
  | .hbm, ⟨19, _⟩ => ⟨S72x704x1, .i32⟩
  | .hbm, ⟨20, _⟩ => ⟨S72x704x2, .i32⟩
  | .hbm, ⟨21, _⟩ => ⟨S72x1408, .i32⟩
  | .hbm, ⟨22, _⟩ => ⟨S72x1408, .bf16⟩
  | .hbm, ⟨23, _⟩ => ⟨S36x1408, .bf16⟩
  | .hbm, ⟨24, _⟩ => ⟨S36x1408, .bf16⟩
  | .hbm, ⟨25, _⟩ => ⟨S4608x1408, .bf16⟩
  | .hbm, ⟨26, _⟩ => ⟨S36x128x1408, .bf16⟩
  | .hbm, ⟨27, _⟩ => ⟨S36x1x1408, .bf16⟩
  | .hbm, ⟨28, _⟩ => ⟨S36x128x1408, .bf16⟩
  | .hbm, ⟨29, _⟩ => ⟨S36x128x1408, .bf16⟩
  | .hbm, ⟨30, _⟩ => ⟨S36x1x1408, .bf16⟩
  | .hbm, ⟨31, _⟩ => ⟨S36x128x1408, .bf16⟩
  | .hbm, ⟨32, _⟩ => ⟨S36x128x1408, .bf16⟩
  | .hbm, ⟨33, _⟩ => ⟨S4608x1408, .bf16⟩
  | .hbm, ⟨34, _⟩ => ⟨S36x1408, .bf16⟩
  | .hbm, ⟨35, _⟩ => ⟨S36x1408, .bf16⟩
  | .hbm, ⟨36, _⟩ => ⟨S4608x1408, .bf16⟩
  | .hbm, ⟨37, _⟩ => ⟨S36x128x1408, .bf16⟩
  | .hbm, ⟨38, _⟩ => ⟨S36x1x1408, .bf16⟩
  | .hbm, ⟨39, _⟩ => ⟨S36x128x1408, .bf16⟩
  | .hbm, ⟨40, _⟩ => ⟨S36x128x1408, .bf16⟩
  | .hbm, ⟨41, _⟩ => ⟨S36x1x1408, .bf16⟩
  | .hbm, ⟨42, _⟩ => ⟨S36x128x1408, .bf16⟩
  | .hbm, ⟨43, _⟩ => ⟨S36x128x1408, .bf16⟩
  | .hbm, ⟨44, _⟩ => ⟨S4608x1408, .bf16⟩
  | .hbm, ⟨45, _⟩ => ⟨S8x256x4608, .bf16⟩
  | .hbm, ⟨46, _⟩ => ⟨S8x256x1408, .f32⟩
  | .hbm, ⟨47, _⟩ => ⟨S8x256x4608, .bf16⟩
  | .hbm, ⟨48, _⟩ => ⟨S8x256x1408, .f32⟩
  | .hbm, ⟨49, _⟩ => ⟨S8x256x1408, .f32⟩
  | .hbm, ⟨50, _⟩ => ⟨S8x256x1408, .bf16⟩
  | _, _ => ⟨S8x256x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Proof.Nibbles.lean ====
/-
  THE FOUR-BIT FIELDS OF A BYTE, as numbers and as the words that the two programs compute.

  A stored byte holds two fields: the low four bits and the high four bits. `nib hi b` is the chosen field as a
  number. The kernel reads four rows of bytes as one 32-bit word, shifts and masks the whole word, and reads the
  result as four rows of bytes again (`codes_apply`: this is the field of each byte, row by row). The reference widens
  each byte to 32 bits and masks or shifts that (`toInt_lo`, `toInt_hi`).
-/
module

public import proofs.«01_k».proof.Proof.Gen.KernelIdeal.Skeleton
public import Idealize.ShloMosaic.Lib.BitcastFour
public import Idealize.ShloMosaic.Lib.Pointwise

@[expose] public section

set_option maxRecDepth 16384

noncomputable section

namespace Cert.Int4

open Idealize.ShloMosaic

/-- The field of a byte as a natural number: the high four bits, or the low four. -/
def nibNat (hi : Bool) (b : BitVec 8) : ℕ := if hi then b.toNat / 16 else b.toNat % 16

/-- The field of a byte as an extended real. -/
def nib (hi : Bool) (b : BitVec 8) : EReal := (((nibNat hi b : ℕ) : ℝ) : EReal)

/-- The field of a byte as a byte. -/
def nib8 (hi : Bool) (b : BitVec 8) : BitVec 8 := (if hi then b >>> 4 else b) &&& 15#8

/-- As a signed byte the field is its number: it is below sixteen. -/
theorem toInt_nib8 (hi : Bool) (b : BitVec 8) : (nib8 hi b).toInt = (nibNat hi b : ℤ) := by
  revert b; cases hi <;> decide +kernel

/-- The byte widened with zeros and masked to its low four bits, as a signed 32-bit word. -/
theorem toInt_lo (b : BitVec 8) : (IntOp.andi (b.setWidth 32) 15#32).toInt = (nibNat false b : ℤ) := by
  revert b; decide +kernel

/-- The byte widened with zeros and shifted right by four, as a signed 32-bit word (in a vector). -/
theorem toInt_hi (b : BitVec 8) : (IntOp.shrsi .vector (b.setWidth 32) 4#32).toInt = (nibNat true b : ℤ) := by
  revert b; decide +kernel

/-- The same shift as a host program makes it. -/
theorem toInt_hi_host (b : BitVec 8) : (IntOp.shrsi .host (b.setWidth 32) 4#32).toInt = (nibNat true b : ℤ) := by
  revert b; decide +kernel

section Codes

open Cert.KernelIdeal Cert.KernelIdeal.Gen

/-- Bit `8 j + q` of the mask `0x0F0F0F0F` is set exactly at the four low bits of each byte. -/
theorem mask_bit (i : Fin 32) : (252645135#32 : BitVec 32).getLsbD i.val = decide (i.val % 8 < 4) := by
  revert i; decide +kernel

/-- The bits of a byte's field. -/
theorem nib8_bit (hi : Bool) (b : BitVec 8) (q : ℕ) (hq : q < 8) :
    (nib8 hi b).getLsbD q = (decide (q < 4) && b.getLsbD (q + if hi then 4 else 0)) := by
  have h15 : ∀ q : Fin 8, (15#8 : BitVec 8).getLsbD q.val = decide (q.val < 4) := by decide
  unfold nib8
  rw [BitVec.getLsbD_and, h15 ⟨q, hq⟩, Bool.and_comm]
  cases hi
  · simp
  · simp [Nat.add_comm]

/-- The word shifted right by zero or four and masked by `0x0F0F0F0F`, read at a bit. -/
theorem shift_mask_bit (hi : Bool) (w : BitVec 32) (i : ℕ) (hlt : i < 32) :
    (IntOp.andi (IntOp.shrsi .vector w (if hi then 4#32 else 0#32)) 252645135#32).getLsbD i
      = (decide (i % 8 < 4) && w.getLsbD (i + if hi then 4 else 0)) := by
  have hw : IntOp.shrsi .vector w (if hi then 4#32 else 0#32) = w.sshiftRight (if hi then 4 else 0) := by
    cases hi <;> rfl
  rw [hw, IntOp.andi, BitVec.getLsbD_and, mask_bit ⟨i, hlt⟩, Bool.and_comm, BitVec.getLsbD_sshiftRight]
  by_cases h4 : i % 8 < 4
  · have hb : (if hi then 4 else 0) + i < 32 := by cases hi <;> simp <;> omega
    rw [if_pos hb]
    simp [h4, Nat.add_comm, hlt]
  · simp [h4]

/-- Four rows of bytes read as one word, the word shifted right by `s` (zero or four) and masked by `0x0F0F0F0F`, the
    result read as four rows of bytes: every byte has become its own field. -/
theorem codes_apply (hi : Bool) (x : S128x1408.Idx → BitVec 8) (j : S128x1408.Idx) :
    bitcast S128x1408 8 (andi (shrsi (bitcast S32x1408 32 x bitcasts_S128x1408_w8_S32x1408_w32)
        (broadcast S32x1408 (if hi then 4#32 else 0#32))) (broadcast S32x1408 252645135#32))
      bitcasts_S32x1408_w32_S128x1408_w8 j = nib8 hi (x j) := by
  apply BitVec.eq_of_getLsbD_eq
  intro q hq
  have hrow : S128x1408.row j = (j 0).val := rfl
  have hj : (j 0).val < 128 := (j 0).isLt
  rw [bitcast_getLsbD _ _ _ q hq (by decide), nib8_bit hi _ q hq]
  show (IntOp.andi (IntOp.shrsi .vector _ _) _).getLsbD _ = _
  refine (shift_mask_bit hi _ _ (Nat.mod_lt _ (by decide))).trans ?_
  have hm : (S128x1408.row j * 8 + q) % 32 % 8 = q := by omega
  rw [hm]
  by_cases h4 : q < 4
  · have hb : (S128x1408.row j * 8 + q) % 32 + (if hi then 4 else 0) < 32 := by cases hi <;> simp <;> omega
    simp only [h4, decide_true, Bool.true_and]
    rw [bitcast_8_32_getLsbD _ _ _ _ hb]
    have hq' : ((S128x1408.row j * 8 + q) % 32 + (if hi then 4 else 0)) % 8 = q + (if hi then 4 else 0) := by
      cases hi <;> simp <;> omega
    rw [hq']
    congr 2
    funext a
    match a with
    | ⟨0, _⟩ =>
      refine Fin.ext ((Shape.Bitcasts.srcIdx_row _ _ _ _ ⟨0, Nat.zero_lt_two⟩ rfl).trans ?_)
      have e : S32x1408.row (bitcasts_S32x1408_w32_S128x1408_w8.srcIdx j ((S128x1408.row j * 8 + q) / 32)
          (fun a ha => (Nat.div_lt_iff_lt_mul (by decide)).2 (Shape.Bitcasts.pos_lt bitcasts_S32x1408_w32_S128x1408_w8 j q hq a ha)))
            = (S128x1408.row j * 8 + q) / 32 := rfl
      rw [e]
      show _ = (j 0).val
      cases hi <;> simp <;> omega
    | ⟨1, _⟩ =>
      refine Fin.ext ((Shape.Bitcasts.srcIdx_other _ _ _ _ ⟨1, Nat.one_lt_two⟩ (by show ¬ 1 + 2 = 2; omega)).trans ?_)
      exact Shape.Bitcasts.srcIdx_other _ _ _ _ ⟨1, Nat.one_lt_two⟩ (by show ¬ 1 + 2 = 2; omega)
  · simp [h4]

end Codes

end Cert.Int4

end
-- ==== Proof.Zeros.lean ====
/-
  THE ZERO POINTS AS THE KERNEL UNPACKS THEM: eleven stores of 128 columns each into a 72 by 1408 buffer.

  Column `n` of the unpacked array reads the byte at column `n / 2` of the packed one: its low field where `n` is even,
  its high field where `n` is odd (`zpt`). The kernel forms 128 columns at a time: it gathers the byte of each lane (the
  lane halved, plus 0 or 64) from a slab of 128 packed columns and selects the field by the lane's parity (`zsel_apply`,
  `zgather_apply`). Each of the eleven stored pieces is the part of `zpt` that its rectangle names (`zpieces_agree`).
-/
module

public import proofs.«01_k».proof.Proof.Nibbles
public import proofs.«01_k».proof.Proof.Gen.KernelIdeal.Frame
public import Idealize.ShloMosaic.Lib.Pipeline.ValueKit

@[expose] public section

set_option maxRecDepth 16384

noncomputable section

namespace Cert.Int4

open Idealize.ShloMosaic Idealize.ShloMosaic.TcCoe Idealize.ShloMosaic.Tactic
open Cert.KernelIdeal Cert.KernelIdeal.Gen

/-- The unpacked zero point at row `g`, column `n`. -/
def zpt (v : Vec Ideal S72x704 .i8) (g : Fin 72) (n : Fin 1408) : EReal :=
  nib (decide (n.val % 2 = 1)) (v (ix2 g ⟨n.val / 2, by omega⟩))

/-- The unpacked zero points as an array. -/
def zptA (v : Vec Ideal S72x704 .i8) : Vec Ideal S72x1408 .f32 := fun i => zpt v (i 0) (i 1)

/-- The lane numbers of a 72 by 128 slab. -/
abbrev lanes : IVec S72x128 32 := iota .tc S72x128 32 [1] iota_S72x128_d1_w32

section Generic

variable {F : FTy → Type} [FloatOps F]

/-- The kernel's select: the low field of the gathered byte at even lanes, the high field at odd ones, as floats. -/
def zsel (g : IVec S72x128 32) : FVec F S72x128 .f32 :=
  k0_pay11 (F := F) g 2#32 (remsi lanes (broadcast S72x128 2#32))
    (cmpi .ne (remsi lanes (broadcast S72x128 2#32)) (broadcast S72x128 0#32))

/-- The lane halved (rounding down), as the kernel computes it. -/
def zhalf : IVec S72x128 32 :=
  select (andi (cmpi .ne (subi (extui 32 (cmpi .sgt lanes (broadcast S72x128 0#32)) natLt_1_32)
      (extui 32 (cmpi .slt lanes (broadcast S72x128 0#32)) natLt_1_32)) (broadcast S72x128 1#32))
      (cmpi .ne (remsi lanes (broadcast S72x128 2#32)) (broadcast S72x128 0#32)))
    (subi (divsi lanes (broadcast S72x128 2#32)) (broadcast S72x128 1#32)) (divsi lanes (broadcast S72x128 2#32))

/-- The gather's index: the lane halved plus `h`, a negative one wrapped around. -/
def zidx (h : BitVec 32) : IVec S72x128 32 :=
  select (cmpi .slt (addi zhalf (broadcast S72x128 h)) (broadcast S72x128 0#32))
    (addi (addi zhalf (broadcast S72x128 h)) (broadcast S72x128 128#32)) (addi zhalf (broadcast S72x128 h))

/-- The kernel's gather from a slab of 128 packed columns. -/
def zgather (h : BitVec 32) (src : IVec S72x128 32) : IVec S72x128 32 :=
  dynamicGather 1 src (shapeCast S72x128 (shapeCast S72x128x1 (zidx h) shapeCasts_S72x128_S72x128x1)
    shapeCasts_S72x128x1_S72x128)

/-- The packed zero points, widened. -/
abbrev zwide (v : Vec F S72x704 .i8) : IVec S72x704 32 := extui 32 v natLt_8_32

/-- The slab of the last 64 packed columns, twice side by side. -/
def zlast (v : Vec F S72x704 .i8) : IVec S72x128 32 :=
  concatenate S72x128 1 [⟨S72x64, extractStridedSlice S72x64 ![0, 640] (zwide v) slices_S72x704_o0_640_S72x64⟩,
    ⟨S72x64, extractStridedSlice S72x64 ![0, 640] (zwide v) slices_S72x704_o0_640_S72x64⟩]
    concatenates_S72x64_S72x64_S72x128_d1

/-- The eleven stored pieces, last first. -/
def zpieces (v : Vec F S72x704 .i8) : List (View.Piece (Elt F) S72x1408 .f32) :=
  [⟨Rect.unit ![0, 1280] S72x128.size inb_S72x1408_S72x128_0_1280, zsel (F := F) (zgather 0#32 (zlast v))⟩,
   ⟨Rect.unit ![0, 1152] S72x128.size inb_S72x1408_S72x128_0_1152, zsel (F := F) (zgather 64#32 (extractStridedSlice S72x128 ![0, 512] (zwide v) slices_S72x704_o0_512_S72x128))⟩,
   ⟨Rect.unit ![0, 1024] S72x128.size inb_S72x1408_S72x128_0_1024, zsel (F := F) (zgather 0#32 (extractStridedSlice S72x128 ![0, 512] (zwide v) slices_S72x704_o0_512_S72x128))⟩,
   ⟨Rect.unit ![0, 896] S72x128.size inb_S72x1408_S72x128_0_896, zsel (F := F) (zgather 64#32 (extractStridedSlice S72x128 ![0, 384] (zwide v) slices_S72x704_o0_384_S72x128))⟩,
   ⟨Rect.unit ![0, 768] S72x128.size inb_S72x1408_S72x128_0_768, zsel (F := F) (zgather 0#32 (extractStridedSlice S72x128 ![0, 384] (zwide v) slices_S72x704_o0_384_S72x128))⟩,
   ⟨Rect.unit ![0, 640] S72x128.size inb_S72x1408_S72x128_0_640, zsel (F := F) (zgather 64#32 (extractStridedSlice S72x128 ![0, 256] (zwide v) slices_S72x704_o0_256_S72x128))⟩,
   ⟨Rect.unit ![0, 512] S72x128.size inb_S72x1408_S72x128_0_512, zsel (F := F) (zgather 0#32 (extractStridedSlice S72x128 ![0, 256] (zwide v) slices_S72x704_o0_256_S72x128))⟩,
   ⟨Rect.unit ![0, 384] S72x128.size inb_S72x1408_S72x128_0_384, zsel (F := F) (zgather 64#32 (extractStridedSlice S72x128 ![0, 128] (zwide v) slices_S72x704_o0_128_S72x128))⟩,
   ⟨Rect.unit ![0, 256] S72x128.size inb_S72x1408_S72x128_0_256, zsel (F := F) (zgather 0#32 (extractStridedSlice S72x128 ![0, 128] (zwide v) slices_S72x704_o0_128_S72x128))⟩,
   ⟨Rect.unit ![0, 128] S72x128.size inb_S72x1408_S72x128_0_128, zsel (F := F) (zgather 64#32 (extractStridedSlice S72x128 ![0, 0] (zwide v) slices_S72x704_o0_0_S72x128))⟩,
   ⟨Rect.unit ![0, 0] S72x128.size inb_S72x1408_S72x128_0_0, zsel (F := F) (zgather 0#32 (extractStridedSlice S72x128 ![0, 0] (zwide v) slices_S72x704_o0_0_S72x128))⟩]

/-- What the kernel's run lists as stored into the zero-point buffer is these eleven pieces. -/
theorem run_zpieces (c : Dev nD) (arg4 : Memref sig .tc .vmem S72x704 .i8) (harg4 : arg4.IsWhole)
    (x3 : Vec F S72x704 .i8) :
    kernelRun0_A.sl.HS1_11 (F := F) c arg4 harg4 x3
      = zpieces (View.readAt (Elt F) arg4.view (Rect.unit ![0, 0] S72x704.size inb_S72x704_S72x704_0_0).toLoadRect
          (harg4.unread x3)) := by
  rfl

end Generic

/-- The lane halved plus zero or sixty-four, lane by lane. -/
theorem zidx_apply (h64 : Bool) (r : Fin 72) (l : Fin 128) :
    (zidx (if h64 then 64#32 else 0#32) (ix2 r l)).toNat = l.val / 2 + (if h64 then 64 else 0) := by
  pointwise [zidx, zhalf]
  revert l
  cases h64 <;> decide +kernel

/-- The gather reads the byte of each lane. -/
theorem zgather_apply (h64 : Bool) (src : IVec S72x128 32) (r : Fin 72) (l : Fin 128) :
    zgather (if h64 then 64#32 else 0#32) src (ix2 r l)
      = src (ix2 r ⟨l.val / 2 + (if h64 then 64 else 0), by cases h64 <;> simp <;> omega⟩) := by
  pointwise [zgather]
  congr 3
  rw [zidx_apply]
  cases h64 <;> simp <;> omega

/-- The kernel's parity test of a lane. -/
theorem parity_word (l : Fin 128) :
    IntOp.cmpi CmpIPredicate.eq
          (Scalar.select
            (IntOp.andi
              (IntOp.xori (IntOp.cmpi CmpIPredicate.slt (IntOp.remsi ArithUnit.vector (BitVec.ofNat 32 ↑l) 2#32) 0#32)
                (Scalar.cmpi CmpIPredicate.slt 2#32 0#32))
              (IntOp.cmpi CmpIPredicate.ne (IntOp.remsi ArithUnit.vector (BitVec.ofNat 32 ↑l) 2#32) 0#32))
            (IntOp.addi (IntOp.remsi ArithUnit.vector (BitVec.ofNat 32 ↑l) 2#32) 2#32)
            (IntOp.remsi ArithUnit.vector (BitVec.ofNat 32 ↑l) 2#32))
          0#32 = if l.val % 2 = 1 then 0#1 else 1#1 := by
  revert l
  decide +kernel

/-- The select by the lane's parity, over a gathered byte. -/
theorem zsel_apply (g : IVec S72x128 32) (r : Fin 72) (l : Fin 128) (b : BitVec 8) (hb : g (ix2 r l) = b.setWidth 32) :
    zsel (F := Ideal) g (ix2 r l) = nib (decide (l.val % 2 = 1)) b := by
  pointwise [zsel, k0_pay11]
  rw [parity_word, hb]
  by_cases h : l.val % 2 = 1
  · simp only [h, if_true, decide_true]
    show (((IntOp.shrsi .vector (b.setWidth 32) 4#32).toInt : ℝ) : EReal) = _
    rw [toInt_hi]; rfl
  · simp only [h, if_false, decide_false]
    show (((IntOp.andi (b.setWidth 32) 15#32).toInt : ℝ) : EReal) = _
    rw [toInt_lo]; rfl

/-- One stored chunk over a slab whose column `q` is packed column `s + q`: unpacked column `o + l`, `o = 2 s + 128 h`. -/
theorem chunk_agree (v : Vec Ideal S72x704 .i8) (src : IVec S72x128 32) (h64 : Bool) (s o : ℕ) (ho : o + 128 ≤ 1408)
    (hso : o = 2 * s + (if h64 then 128 else 0))
    (inb : ∀ a, (![0, o] : Fin 2 → ℕ) a + S72x128.size a ≤ S72x1408.size a)
    (hsrc : ∀ (r : Fin 72) (q : Fin 128) (hq : s + q.val < 704), src (ix2 r q) = (v (ix2 r ⟨s + q.val, hq⟩)).setWidth 32)
    (x : S72x128.Idx) :
    zsel (F := Ideal) (zgather (if h64 then 64#32 else 0#32) src) x
      = zptA v ((Rect.unit (s := S72x1408) ![0, o] S72x128.size inb).emb x) := by
  idx_vars x
  have e : zptA v ((Rect.unit (s := S72x1408) ![0, o] S72x128.size inb).emb (ix2 x0 x1))
      = zpt v x0 ⟨o + x1.val, by omega⟩ := by
    unfold zptA
    congr 1
    · exact Fin.ext (by simp [Rect.emb, Rect.unit])
    · exact Fin.ext (by simp [Rect.emb, Rect.unit])
  have hb : s + (x1.val / 2 + (if h64 then 64 else 0)) = (o + x1.val) / 2 := by
    rw [hso]; cases h64 <;> simp <;> omega
  rw [e, zsel_apply _ x0 x1 (v (ix2 x0 ⟨(o + x1.val) / 2, by omega⟩)), zpt]
  · have hp : (o + x1.val) % 2 = x1.val % 2 := by cases h64 <;> simp at hso <;> omega
    simp only [hp]
  · rw [zgather_apply, hsrc x0 _ (by rw [hb]; omega)]
    simp only [hb]

/-- A slab cut from the packed array at column `s`. -/
theorem slab_apply (v : Vec Ideal S72x704 .i8) (s : ℕ) (h : S72x704.Slices ![0, s] S72x128)
    (r : Fin 72) (q : Fin 128) (hq : s + q.val < 704) :
    extractStridedSlice S72x128 ![0, s] (zwide (F := Ideal) v) h (ix2 r q) = (v (ix2 r ⟨s + q.val, hq⟩)).setWidth 32 := by
  pointwise []

/-- The slab of the last 64 packed columns, at its first half. -/
theorem zlast_apply (v : Vec Ideal S72x704 .i8) (r : Fin 72) (q : Fin 128) (hq : 640 + q.val < 704) :
    zlast (F := Ideal) v (ix2 r q) = (v (ix2 r ⟨640 + q.val, hq⟩)).setWidth 32 := by
  pointwise [zlast]
  rw [dif_pos (by omega)]

/-- Every stored piece is the part of the unpacked array that its rectangle names. -/
theorem zpieces_agree (v : Vec Ideal S72x704 .i8) :
    ∀ p ∈ zpieces (F := Ideal) v, ∀ x, p.2 x = zptA v (p.1.emb x) := by
  intro p hp
  simp only [zpieces, List.mem_cons, List.not_mem_nil, or_false] at hp
  rcases hp with rfl | rfl | rfl | rfl | rfl | rfl | rfl | rfl | rfl | rfl | rfl
  · exact chunk_agree v _ false 640 1280 (by omega) rfl (by decide) (zlast_apply v)
  · exact chunk_agree v _ true 512 1152 (by omega) rfl (by decide) (slab_apply v 512 _)
  · exact chunk_agree v _ false 512 1024 (by omega) rfl (by decide) (slab_apply v 512 _)
  · exact chunk_agree v _ true 384 896 (by omega) rfl (by decide) (slab_apply v 384 _)
  · exact chunk_agree v _ false 384 768 (by omega) rfl (by decide) (slab_apply v 384 _)
  · exact chunk_agree v _ true 256 640 (by omega) rfl (by decide) (slab_apply v 256 _)
  · exact chunk_agree v _ false 256 512 (by omega) rfl (by decide) (slab_apply v 256 _)
  · exact chunk_agree v _ true 128 384 (by omega) rfl (by decide) (slab_apply v 128 _)
  · exact chunk_agree v _ false 128 256 (by omega) rfl (by decide) (slab_apply v 128 _)
  · exact chunk_agree v _ true 0 128 (by omega) rfl (by decide) (slab_apply v 0 _)
  · exact chunk_agree v _ false 0 0 (by omega) rfl (by decide) (slab_apply v 0 _)

/-- The eleven pieces cover the buffer: column `n` lies in the piece that starts at `128 (n / 128)`. -/
theorem zpieces_cover (v : Vec Ideal S72x704 .i8) (y : S72x1408.Idx) : ∃ p ∈ zpieces (F := Ideal) v, y ∈ p.1.set := by
  exact View.cover_of_tiledL (zpieces (F := Ideal) v) S72x128.size (by sl_kernel_rfl) y

/-- What the zero-point buffer reads after the eleven stores. -/
theorem zpieces_canon (v : Vec Ideal S72x704 .i8) : View.canon (zpieces (F := Ideal) v) = zptA v :=
  funext fun y => View.canon_apply_of_pieces (zptA v) _ (zpieces_agree v) y (zpieces_cover v y)

end Cert.Int4

end
-- ==== Proof.Weights.lean ====
/-
  THE DEQUANTIZED WEIGHTS AS THE KERNEL BUILDS THEM: thirty-six trips of a loop, each storing two slabs of 128 rows.

  Row `k` of the weights holds `(code k n - zero (k / 128) n) * scale (k / 128) n`; the codes of rows below 4608 are the
  low fields of the packed bytes, those of the other rows the high fields (`wgt`). Trip `t` reads 128 packed rows once and
  stores rows `128 t ..` from their low fields and rows `4608 + 128 t ..` from their high fields (`low_apply`,
  `high_apply`). Every piece the loop stores is the part of `wgt` that its rectangle names (`loop_agree`).
-/
module

public import proofs.«01_k».proof.Proof.Zeros

@[expose] public section

set_option maxRecDepth 16384

noncomputable section

namespace Cert.Int4

open Idealize.ShloMosaic Idealize.ShloMosaic.TcCoe Idealize.ShloMosaic.Tactic
open Cert.KernelIdeal Cert.KernelIdeal.Gen

/-- The four-bit code of weight row `k`, column `n`. -/
def code (w : Vec Ideal S4608x1408 .i8) (k : Fin 9216) (n : Fin 1408) : EReal :=
  if h : k.val < 4608 then nib false (w (ix2 ⟨k.val, h⟩ n)) else nib true (w (ix2 ⟨k.val - 4608, by omega⟩ n))

/-- The weight of row `k`, column `n`, from unpacked zero points `z` and scales `s`. -/
def wgt (w : Vec Ideal S4608x1408 .i8) (z s : Vec Ideal S72x1408 .f32) (k : Fin 9216) (n : Fin 1408) : EReal :=
  (code w k n - z (ix2 ⟨k.val / 128, by omega⟩ n)) * s (ix2 ⟨k.val / 128, by omega⟩ n)

/-- A weight of the first half of the rows. -/
theorem wgt_low (w : Vec Ideal S4608x1408 .i8) (z s : Vec Ideal S72x1408 .f32) (k : Fin 9216) (n : Fin 1408)
    (h : k.val < 4608) : wgt w z s k n = (nib false (w (ix2 ⟨k.val, h⟩ n)) - z (ix2 ⟨k.val / 128, by omega⟩ n))
      * s (ix2 ⟨k.val / 128, by omega⟩ n) := by
  rw [wgt, code, dif_pos h]

/-- A weight of the second half of the rows. -/
theorem wgt_high (w : Vec Ideal S4608x1408 .i8) (z s : Vec Ideal S72x1408 .f32) (k : Fin 9216) (n : Fin 1408)
    (h : ¬ k.val < 4608) : wgt w z s k n = (nib true (w (ix2 ⟨k.val - 4608, by omega⟩ n))
      - z (ix2 ⟨k.val / 128, by omega⟩ n)) * s (ix2 ⟨k.val / 128, by omega⟩ n) := by
  rw [wgt, code, dif_neg h]

/-- The weights as an array. -/
def wgtA (w : Vec Ideal S4608x1408 .i8) (z s : Vec Ideal S72x1408 .f32) : Vec Ideal S9216x1408 .bf16 :=
  fun i => wgt w z s (i 0) (i 1)

/-- A byte's field converted to a float is the field's number. -/
theorem sitofp_nib8 (hi : Bool) (b : BitVec 8) : FloatOps.sitofp (F := Ideal) .bf16 (nib8 hi b) = nib hi b := by
  show (((nib8 hi b).toInt : ℝ) : EReal) = _
  rw [toInt_nib8]; rfl

/-- The slab stored from the low fields. -/
theorem low_apply (v : Vec Ideal S128x1408 .i8) (z s : Vec Ideal S1x1408 .f32) (r : Fin 128) (n : Fin 1408) :
    k0_pay3 (F := Ideal) v z s (ix2 r n) = (nib false (v (ix2 r n)) - z (ix2 0 n)) * s (ix2 0 n) := by
  unfold k0_pay3 k0_pay2
  pointwise []
  have e := codes_apply false v (ix2 r n)
  rw [if_neg Bool.false_ne_true] at e
  rw [e, sitofp_nib8]

/-- The slab stored from the high fields. -/
theorem high_apply (v : Vec Ideal S128x1408 .i8) (z s : Vec Ideal S1x1408 .f32) (r : Fin 128) (n : Fin 1408) :
    k0_pay59 (F := Ideal) (k0_pay4 z) (k0_pay5 s) (k0_pay6 v) (ix2 r n)
      = (nib true (v (ix2 r n)) - z (ix2 0 n)) * s (ix2 0 n) := by
  unfold k0_pay59 k0_pay4 k0_pay5 k0_pay6 k0_pay2
  pointwise []
  have e := codes_apply true v (ix2 r n)
  rw [if_pos rfl] at e
  rw [e, sitofp_nib8]

/-- Where trip `k` reads its packed rows. -/
theorem off1_eq : ∀ k : Fin k0_t1_loop.trips, k0_off1 k = ![128 * k.val, 0] := by decide +kernel

/-- Where trip `k` reads its first zero points and scales. -/
theorem off2_lo : ∀ k : Fin k0_t1_loop.trips, k0_off2 k 0#32 = ![k.val, 0] := by decide +kernel

/-- Where trip `k` reads its second zero points and scales. -/
theorem off2_hi : ∀ k : Fin k0_t1_loop.trips, k0_off2 k 36#32 = ![k.val + 36, 0] := by decide +kernel

/-- Where trip `k` stores its first slab. -/
theorem off3_lo : ∀ k : Fin k0_t1_loop.trips, k0_off3 k 0#32 = ![128 * k.val, 0] := by decide +kernel

/-- Where trip `k` stores its second slab. -/
theorem off3_hi : ∀ k : Fin k0_t1_loop.trips, k0_off3 k 4608#32 = ![128 * k.val + 4608, 0] := by decide +kernel

/-- Row `r` of a box of rows from row `o` of a buffer. -/
theorem rows_apply {m n K : ℕ} {e : EltTy} (x : Vec Ideal ⟨2, ![m, n]⟩ e) (off : Fin 2 → ℕ) (o : ℕ) (ho : off = ![o, 0])
    (inb : ∀ a, off a + (![K, n] : Fin 2 → ℕ) a ≤ (![m, n] : Fin 2 → ℕ) a) (r : Fin K) (c : Fin n) (q : Fin m)
    (hq : q.val = o + r.val) :
    View.ld (Val := Elt Ideal) (S := ⟨2, ![m, n]⟩) x (Rect.unit (s := ⟨2, ![m, n]⟩) off ![K, n] inb) (ix2 r c)
      = x (ix2 q c) := by
  subst ho
  show x _ = x _
  congr 1
  funext a
  match a with
  | ⟨0, _⟩ => exact Fin.ext (by simp [Rect.unit, hq])
  | ⟨1, _⟩ => exact Fin.ext (by simp [Rect.unit])

/-- Where row `r` of a stored box of rows lies. -/
theorem rows_emb {m n K : ℕ} (off : Fin 2 → ℕ) (o : ℕ) (ho : off = ![o, 0])
    (inb : ∀ a, off a + (![K, n] : Fin 2 → ℕ) a ≤ (![m, n] : Fin 2 → ℕ) a) (r : Fin K) (c : Fin n) (q : Fin m)
    (hq : q.val = o + r.val) :
    (Rect.unit (s := ⟨2, ![m, n]⟩) off ![K, n] inb).emb (ix2 r c) = ix2 q c := by
  subst ho
  funext a
  match a with
  | ⟨0, _⟩ => exact Fin.ext (by simp [Rect.emb, Rect.unit, hq])
  | ⟨1, _⟩ => exact Fin.ext (by simp [Rect.emb, Rect.unit])

section Loop

variable (𝒱 : Variants) (c : Dev nD) (bd : Option 𝒱.V) (i : grid0.Coords)
  (arg1 : Memref sig .tc .vmem S256x9216 .bf16) (harg1 : arg1.IsWhole)
  (arg2 : Memref sig .tc .vmem S4608x1408 .i8) (harg2 : arg2.IsWhole)
  (arg3 : Memref sig .tc .vmem S72x1408 .bf16) (harg3 : arg3.IsWhole)
  (arg4 : Memref sig .tc .vmem S72x704 .i8) (harg4 : arg4.IsWhole)
  (arg5 : Memref sig .tc .vmem S256x1408 .bf16) (harg5 : arg5.IsWhole)
  (arg6 : Memref sig .tc .vmem S9216x1408 .bf16) (harg6 : arg6.IsWhole)
  (arg7 : Memref sig .tc .vmem S72x1408 .f32) (harg7 : arg7.IsWhole)
  (arg8 : Memref sig .tc .vmem S72x1408 .f32) (harg8 : arg8.IsWhole)
  (h1 : k0_cond1 i = 1#1)
  (X2 : BufTy.Contents (Elt Ideal) arg2.view.ty) (X7 : BufTy.Contents (Elt Ideal) arg7.view.ty)
  (X8 : BufTy.Contents (Elt Ideal) arg8.view.ty)

/-- The pieces of one trip are the parts of the weights that their rectangles name. -/
theorem trip_agree (k : Fin k0_t1_loop.trips) :
    ∀ p ∈ tripL_k0_t1 (F := Ideal) 𝒱 c bd i arg1 harg1 arg2 harg2 arg3 harg3 arg4 harg4 arg5 harg5 arg6 harg6 arg7 harg7
        arg8 harg8 h1 X2 X7 X8 k,
      ∀ x, p.2 x = wgtA (arg2.view.read (Elt Ideal) X2) (arg7.view.read (Elt Ideal) X7) (arg8.view.read (Elt Ideal) X8)
        (p.1.emb x) := by
  have hk : k.val < 36 := Nat.lt_of_lt_of_le k.isLt k0_t1_abs.2.1
  intro p hp
  unfold tripL_k0_t1 trip_k0_t1 at hp
  dsimp only at hp
  dsimp only [trip_k0_t1.sl.r, trip_k0_t1.sl.r_1, trip_k0_t1.sl.r_2] at hp
  simp only [List.mem_cons, List.not_mem_nil, or_false] at hp
  rcases hp with rfl | rfl
  · intro (x : S128x1408.Idx)
    idx_vars x
    refine (high_apply _ _ _ x0 x1).trans ?_
    rw [View.readAt_eq_ld, View.readAt_eq_ld, View.readAt_eq_ld]
    refine Eq.trans ?_ (congrArg (wgtA _ _ _) (rows_emb _ (128 * k.val + 4608) (off3_hi k) _ x0 x1 ⟨128 * k.val + 4608 + x0.val, by omega⟩ rfl)).symm
    rw [rows_apply _ _ (128 * k.val) (off1_eq k) _ x0 x1 ⟨128 * k.val + 4608 + x0.val - 4608, by omega⟩ (by dsimp only; omega),
      rows_apply _ _ (k.val + 36) (off2_hi k) _ 0 x1 ⟨(128 * k.val + 4608 + x0.val) / 128, by omega⟩ (by dsimp only; simp; omega),
      rows_apply _ _ (k.val + 36) (off2_hi k) _ 0 x1 ⟨(128 * k.val + 4608 + x0.val) / 128, by omega⟩ (by dsimp only; simp; omega)]
    exact (wgt_high _ _ _ ⟨128 * k.val + 4608 + x0.val, by omega⟩ x1 (by dsimp only; omega)).symm
  · intro (x : S128x1408.Idx)
    idx_vars x
    refine (low_apply _ _ _ x0 x1).trans ?_
    rw [View.readAt_eq_ld, View.readAt_eq_ld, View.readAt_eq_ld]
    refine Eq.trans ?_ (congrArg (wgtA _ _ _) (rows_emb _ (128 * k.val) (off3_lo k) _ x0 x1 ⟨128 * k.val + x0.val, by omega⟩ rfl)).symm
    rw [rows_apply _ _ (128 * k.val) (off1_eq k) _ x0 x1 ⟨128 * k.val + x0.val, by omega⟩ rfl,
      rows_apply _ _ (k.val) (off2_lo k) _ 0 x1 ⟨(128 * k.val + x0.val) / 128, by omega⟩ (by dsimp only; simp; omega),
      rows_apply _ _ (k.val) (off2_lo k) _ 0 x1 ⟨(128 * k.val + x0.val) / 128, by omega⟩ (by dsimp only; simp; omega)]
    exact (wgt_low _ _ _ ⟨128 * k.val + x0.val, by omega⟩ x1 (by dsimp only; omega)).symm

/-- Every piece that the first `k` trips store is the part of the weights that its rectangle names. -/
theorem loop_agree : ∀ k : ℕ, k ≤ k0_t1_loop.trips →
    ∀ p ∈ pb_k0_t1 (F := Ideal) 𝒱 c bd i arg1 harg1 arg2 harg2 arg3 harg3 arg4 harg4 arg5 harg5 arg6 harg6 arg7 harg7
        arg8 harg8 h1 X2 X7 X8 k,
      ∀ x, p.2 x = wgtA (arg2.view.read (Elt Ideal) X2) (arg7.view.read (Elt Ideal) X7) (arg8.view.read (Elt Ideal) X8)
        (p.1.emb x)
  | 0, _ => fun p hp => by simp [pb_k0_t1] at hp
  | k + 1, hk => fun p hp => by
    rw [pb_k0_t1_succ (k := ⟨k, hk⟩), List.mem_append] at hp
    rcases hp with hp | hp
    · exact trip_agree 𝒱 c bd i arg1 harg1 arg2 harg2 arg3 harg3 arg4 harg4 arg5 harg5 arg6 harg6 arg7 harg7
        arg8 harg8 h1 X2 X7 X8 ⟨k, hk⟩ p hp
    · exact loop_agree k (Nat.le_of_succ_le hk) p hp

end Loop

end Cert.Int4

end
-- ==== Proof.Blocks.lean ====
/-
  WHAT ONE GRID POINT LEAVES: the weights it builds or finds, and the block of the product that it stores.

  The first point of the grid unpacks the zero points, widens the scales and builds the weights (`weights_first`); its
  output block is the product of its rows of `x` with them (`block_first`). Every other point finds the weights and stores
  the product of its own rows with them (`block_rest`). The product is one sum over the 9216 rows of weights (`prod`).
-/
module

public import proofs.«01_k».proof.Proof.Weights

@[expose] public section

set_option maxRecDepth 16384

noncomputable section

namespace Cert.Int4

open Idealize.ShloMosaic Idealize.ShloMosaic.TcCoe Idealize.ShloMosaic.Tactic
open Cert.KernelIdeal Cert.KernelIdeal.Gen

/-- The scales as the kernel widens them (the same numbers). -/
def scl (s : Vec Ideal S72x1408 .bf16) : Vec Ideal S72x1408 .f32 := fun i => s i

/-- The weights from the packed bytes, the scales and the packed zero points. -/
def wts (w : Vec Ideal S4608x1408 .i8) (s : Vec Ideal S72x1408 .bf16) (z : Vec Ideal S72x704 .i8) :
    Vec Ideal S9216x1408 .bf16 := wgtA w (zptA z) (scl s)

/-- A block of rows times the weights. -/
def prod (x : Vec Ideal S256x9216 .bf16) (W : Vec Ideal S9216x1408 .bf16) : Vec Ideal S256x1408 .bf16 :=
  fun i => ∑ k : Fin 9216, x (ix2 (i 0) k) * W (ix2 k (i 1))

/-- The stored product is `prod`. -/
theorem pay1_eq (x : Vec Ideal S256x9216 .bf16) (W : Vec Ideal S9216x1408 .bf16) : k0_pay1 (F := Ideal) x W = prod x W := by
  funext i
  idx_vars i
  unfold k0_pay1
  pointwise [prod]

/-- The widened scales. -/
theorem pay58_eq (s : Vec Ideal S72x1408 .bf16) : k0_pay58 (F := Ideal) s = scl s := by
  funext i
  idx_vars i
  unfold k0_pay58
  pointwise [scl]

/-- A load through a rectangle after stores reads what the stores left there. -/
theorem readCov_canon {sig : RefSig} {κ : Kind} {sp : Space} {s : Shape} {e : EltTy} (v : View sig κ sp s e)
    (L : List (View.Piece (Elt Ideal) s e)) (r : Rect s) :
    v.readCov L r.toLoadRect = View.ld (View.canon L) r := View.readCov_eq_canon' v L r.toLoadRect

section Runs

variable (c : Dev nD) (i : grid0.Coords)
  (arg1 : Memref sig .tc .vmem S256x9216 .bf16) (harg1 : arg1.IsWhole)
  (arg2 : Memref sig .tc .vmem S4608x1408 .i8) (harg2 : arg2.IsWhole)
  (arg3 : Memref sig .tc .vmem S72x1408 .bf16) (harg3 : arg3.IsWhole)
  (arg4 : Memref sig .tc .vmem S72x704 .i8) (harg4 : arg4.IsWhole)
  (arg5 : Memref sig .tc .vmem S256x1408 .bf16) (harg5 : arg5.IsWhole)
  (arg6 : Memref sig .tc .vmem S9216x1408 .bf16) (harg6 : arg6.IsWhole)
  (arg7 : Memref sig .tc .vmem S72x1408 .f32) (harg7 : arg7.IsWhole)
  (arg8 : Memref sig .tc .vmem S72x1408 .f32) (harg8 : arg8.IsWhole)
  (x0 : Vec Ideal S256x9216 .bf16) (x1 : Vec Ideal S4608x1408 .i8) (x2 : Vec Ideal S72x1408 .bf16)
  (x3 : Vec Ideal S72x704 .i8)

/-- The zero-point buffer reads the unpacked zero points when the loop starts. -/
theorem zeros_read :
    arg7.view.read (Elt Ideal) (arg7.view.writes (Elt Ideal) arg7.view.junk (kernelRun0_A.sl.HS1_11 c arg4 harg4 x3))
      = zptA x3 := by
  rw [View.read_writes_junk_eq_canon, run_zpieces, zpieces_canon, View.readAt_eq_ld, harg4.read_unread,
    View.ld_unit_zero (by decide)]

/-- The scale buffer reads the widened scales when the loop starts. -/
theorem scales_read :
    arg8.view.read (Elt Ideal) (arg8.view.writes (Elt Ideal) arg8.view.junk (kernelRun0_A.sl.HS2_1 c arg3 harg3 x2))
      = scl x2 := by
  rw [View.read_writes_junk_eq_canon]
  unfold kernelRun0_A.sl.HS2_1
  rw [View.canon_cons_unit_zero (by decide), pay58_eq, View.readAt_eq_ld, harg3.read_unread, View.ld_unit_zero (by decide)]

/-- The pieces stored into the weight buffer by the first point are the weights. -/
theorem pieces_canon (hc0 : cond0_0 i) :
    View.canon (kernelRun0_A (F := Ideal) c i arg1 harg1 arg2 harg2 arg3 harg3 arg4 harg4 arg5 harg5 arg6 harg6 arg7 harg7 arg8 harg8
      hc0 x0 x1 x2 x3).2.1 = wts x1 x2 x3 := by
  funext y
  refine View.canon_apply_of_pieces (wts x1 x2 x3) _ ?_ y (scover0_A_0 c i arg1 harg1 arg2 harg2 arg3 harg3 arg4 harg4
    arg5 harg5 arg6 harg6 arg7 harg7 arg8 harg8 hc0 x0 x1 x2 x3 y)
  delta kernelRun0_A
  dsimp only
  have e := loop_agree Variants.none c none i arg1 harg1 arg2 harg2 arg3 harg3 arg4 harg4 arg5 harg5 arg6 harg6 arg7 harg7 arg8 harg8
    hc0 (harg2.unread x1) (arg7.view.writes (Elt Ideal) arg7.view.junk (kernelRun0_A.sl.HS1_11 c arg4 harg4 x3))
    (arg8.view.writes (Elt Ideal) arg8.view.junk (kernelRun0_A.sl.HS2_1 c arg3 harg3 x2)) k0_t1_loop.trips le_rfl
  rw [zeros_read, scales_read, harg2.read_unread] at e
  exact e

/-- The first point leaves the weights in their buffer. -/
theorem weights_first (hc0 : cond0_0 i) :
    sout0_A_0 (F := Ideal) c i arg1 harg1 arg2 harg2 arg3 harg3 arg4 harg4 arg5 harg5 arg6 harg6 arg7 harg7 arg8 harg8 hc0
      x0 x1 x2 x3 = wts x1 x2 x3 := by
  unfold sout0_A_0
  rw [View.read_writes_junk_eq_canon, pieces_canon]

/-- The first point's output block. -/
theorem block_first (hc0 : cond0_0 i) :
    out0_A_4 (F := Ideal) c i arg1 harg1 arg2 harg2 arg3 harg3 arg4 harg4 arg5 harg5 arg6 harg6 arg7 harg7 arg8 harg8 hc0
      x0 x1 x2 x3 = prod x0 (wts x1 x2 x3) := by
  have e := pieces_canon c i arg1 harg1 arg2 harg2 arg3 harg3 arg4 harg4 arg5 harg5 arg6 harg6 arg7 harg7 arg8 harg8
    x0 x1 x2 x3 hc0
  unfold out0_A_4
  rw [View.read_writes_junk_eq_canon]
  delta kernelRun0_A
  dsimp only
  rw [View.canon_cons_unit_zero (by decide), pay1_eq, View.readAt_eq_ld, harg1.read_unread, View.ld_unit_zero (by decide),
    readCov_canon, View.ld_unit_zero (by decide)]
  exact congrArg (prod x0) e

/-- Every other point's output block, over the weights it finds. -/
theorem block_rest (hc0 : ¬ cond0_0 i) (W : Vec Ideal S9216x1408 .bf16) :
    out0_B_4 (F := Ideal) c i arg1 harg1 arg2 harg2 arg3 harg3 arg4 harg4 arg5 harg5 arg6 harg6 arg7 harg7 arg8 harg8 hc0
      x0 x1 x2 x3 W = prod x0 W := by
  unfold out0_B_4
  rw [View.read_writes_junk_eq_canon]
  delta kernelRun0_B
  dsimp only
  rw [View.canon_cons_unit_zero (by decide), pay1_eq, View.readAt_eq_ld, View.readAt_eq_ld, harg1.read_unread,
    harg6.read_unread, View.ld_unit_zero (by decide), View.ld_unit_zero (by decide)]

end Runs

end Cert.Int4

end
-- ==== Proof.Array.lean ====
/-
  THE KERNEL'S OUTPUT ARRAY after its grid: row `r` is row `r` of `x` (the eight batches' rows one after another) times
  the weights.

  The first point builds the weights from the whole arguments; every later point finds them as the first left them
  (`carried`), so each point's output block is its 256 rows of `x` times those weights (`block_at`); the eight blocks tile
  the array (`final`).
-/
module

public import proofs.«01_k».proof.Proof.Blocks
public import Idealize.ShloMosaic.Lib.Claim

@[expose] public section

set_option maxRecDepth 16384

noncomputable section

namespace Cert.Int4

open Idealize.ShloMosaic Idealize.ShloMosaic.TcCoe Idealize.ShloMosaic.Tactic
open Cert.KernelIdeal Cert.KernelIdeal.Gen

variable (m : (ℓ : Loc nD τ sig) → Buf (Elt Ideal) ℓ)

/-- The output rows: each row of `x` times the weights. -/
def rowsA (x : Vec Ideal S8x256x9216 .bf16) (W : Vec Ideal S9216x1408 .bf16) : Vec Ideal S2048x1408 .bf16 :=
  fun i => ∑ k : Fin 9216,
    x (ix3 ⟨(i 0).val / 256, Nat.div_lt_of_lt_mul (i 0).isLt⟩ ⟨(i 0).val % 256, Nat.mod_lt _ (by decide)⟩ k)
      * W (ix2 k (i 1))

/-- The weights over the launch's arguments. -/
def wtsM (c : Dev nD) : Vec Ideal S9216x1408 .bf16 :=
  wts (m ((c : Thread nD τ).loc main_arg1)) (m ((c : Thread nD τ).loc main_arg2)) (m ((c : Thread nD τ).loc main_arg3))

/-- The index maps, point by point. -/
theorem idx : ∀ t : Fin cfg0.N, win0_0.index t = ![t.val, 0] ∧ win0_1.index t = ![0, 0] ∧ win0_2.index t = ![0, 0]
    ∧ win0_3.index t = ![0, 0] ∧ win0_4.index t = ![t.val, 0] := by decide +kernel

/-- Every point's block of the packed weights is the whole argument. -/
theorem iblk1 (c : Dev nD) (t : Fin cfg0.N) : iblk m c 1 t = m ((c : Thread nD τ).loc main_arg1) := by
  funext y
  blk_ext [iblk, V, idx t]

/-- Every point's block of the scales is the whole argument. -/
theorem iblk2 (c : Dev nD) (t : Fin cfg0.N) : iblk m c 2 t = m ((c : Thread nD τ).loc main_arg2) := by
  funext y
  blk_ext [iblk, V, idx t]

/-- Every point's block of the packed zero points is the whole argument. -/
theorem iblk3 (c : Dev nD) (t : Fin cfg0.N) : iblk m c 3 t = m ((c : Thread nD τ).loc main_arg3) := by
  funext y
  blk_ext [iblk, V, idx t]

/-- The rows of `x` as the region finds them: the eight batches one after another. -/
theorem entry_rows (c : Dev nD) :
    V m c main_v0 = shapeCast S2048x9216 (m ((c : Thread nD τ).loc main_arg0)) shapeCasts_S8x256x9216_S2048x9216 := by
  show StableHlo.after hostOps0 (fun b => m (c, b)) (Proc.tc.devRef main_v0) = _
  unfold_abbrev_sides
  after_results
  rfl

/-- A row of the eight batches laid one after another. -/
theorem rows_of_batches (x : Vec Ideal S8x256x9216 .bf16) (q : Fin 2048) (k : Fin 9216) :
    shapeCast S2048x9216 x shapeCasts_S8x256x9216_S2048x9216 (ix2 q k)
      = x (ix3 ⟨q.val / 256, by omega⟩ ⟨q.val % 256, by omega⟩ k) := by
  pointwise []

/-- Point `t`'s block of `x` is rows `256 t ..` of the eight batches laid one after another. -/
theorem iblk0 (c : Dev nD) (t : Fin cfg0.N) (r : Fin 256) (k : Fin 9216) (q : Fin 2048) (hq : q.val = 256 * t.val + r.val) :
    iblk m c 0 t (ix2 r k)
      = m ((c : Thread nD τ).loc main_arg0) (ix3 ⟨q.val / 256, by omega⟩ ⟨q.val % 256, by omega⟩ k) := by
  blk_simp [iblk, idx t]
  refine (congrFun (entry_rows m c) _).trans (Eq.trans ?_ (rows_of_batches _ q k))
  blk_ext [idx t]

/-- The first point leaves the weights in their buffer. -/
theorem carried_first (c : Dev nD) (t : Fin cfg0.N) (h0 : t.val % 8 = 0) : (outsAt0 m c t.val t.isLt).2 = wtsM m c := by
  rw [outsAt0_A m c t h0]
  dsimp only
  rw [weights_first, iblk1, iblk2, iblk3]; rfl

/-- Every other point leaves the buffer as it finds it. -/
theorem carried_rest (c : Dev nD) (t : Fin cfg0.N) (h0 : ¬ t.val % 8 = 0) :
    (outsAt0 m c t.val t.isLt).2 = (outsAt0 m c (t.val - 1) (Nat.lt_of_le_of_lt (Nat.sub_le _ _) t.isLt)).2 := by
  rw [outsAt0_B m c t h0]
  rfl

/-- The weight buffer holds the weights after every point. -/
theorem carried (c : Dev nD) (n : ℕ) (hn : n < cfg0.N) : (outsAt0 m c n hn).2 = wtsM m c := by
  induction n with
  | zero => exact carried_first m c ⟨0, hn⟩ rfl
  | succ n ih =>
    have hN : n + 1 < 8 := lt_of_lt_of_eq hn N_0
    exact (carried_rest m c ⟨n + 1, hn⟩ (by show ¬ (n + 1) % 8 = 0; omega)).trans (ih _)

/-- What point `t` stores. -/
theorem block_at (c : Dev nD) (t : Fin cfg0.N) :
    (outsAt0 m c t.val t.isLt).1 = prod (iblk m c 0 t) (wtsM m c) := by
  by_cases h0 : t.val % 8 = 0
  · rw [outsAt0_A m c t h0]
    dsimp only
    rw [block_first, iblk1, iblk2, iblk3]; rfl
  · rw [outsAt0_B m c t h0]
    dsimp only
    rw [block_rest, carried]

/-- A row of a block's product is a row of the array, if the block's row is that row of `x`. -/
theorem prod_row (b : Vec Ideal S256x9216 .bf16) (x : Vec Ideal S8x256x9216 .bf16) (W : Vec Ideal S9216x1408 .bf16)
    (r : Fin 256) (n : Fin 1408) (q : Fin 2048)
    (h : ∀ k : Fin 9216, b (ix2 r k) = x (ix3 ⟨q.val / 256, by omega⟩ ⟨q.val % 256, by omega⟩ k)) :
    prod b W (ix2 r n) = rowsA x W (ix2 q n) :=
  Finset.sum_congr rfl fun k _ => congrArg (· * W (ix2 k n)) (h k)

/-- The array after the grid. -/
theorem final (c : Dev nD) :
    (dats m 0 c).arrAt 4 cfg0.N = rowsA (m ((c : Thread nD τ).loc main_arg0)) (wtsM m c) := by
  refine (dats m 0 c).arrAt_eq_of_covers 4 _ (by decide +kernel) fun t hf y => ?_
  blk_simp
  rw [after0_4, block_at]
  revert y
  intro (y : S256x1408.Idx)
  idx_vars y
  have ht : t.val < 8 := lt_of_lt_of_eq t.isLt N_0
  have e : ((View.whole main_v1).slice (win0_4.rect t)).emb (ix2 y0 y1)
      = (ix2 ⟨256 * t.val + y0.val, by omega⟩ y1 : S2048x1408.Idx) := by
    blk_ext [idx t]
  refine Eq.trans ?_ (congrArg (rowsA _ _) e).symm
  exact prod_row _ _ _ y0 y1 _ fun k => iblk0 m c t y0 k ⟨256 * t.val + y0.val, by omega⟩ rfl

end Cert.Int4

end
-- ==== Proof.Reference.lean ====
/-
  THE REFERENCE'S RESULT: `x` times the weights, read off the reference's own operations.

  The reference multiplies the first half of each row of `x` with the weights from the low fields and the second half with
  those from the high fields, and adds the two products; one sum over all 9216 rows of weights splits into these two.
-/
module

public import proofs.«01_k».proof.Proof.Blocks
public import proofs.«01_k».proof.Proof.Gen.ReferenceIdeal.Run

@[expose] public section

set_option maxRecDepth 16384

noncomputable section

namespace Cert.Int4

open Idealize.ShloMosaic Idealize.ShloMosaic.TcCoe Idealize.ShloMosaic.Tactic
open Cert.ReferenceIdeal Cert.ReferenceIdeal.Gen

/-- The result both programs compute: every row of every batch of `x` times the weights. -/
def outA (x : Vec Ideal S8x256x9216 .bf16) (W : Vec Ideal ⟨2, ![9216, 1408]⟩ .bf16) : Vec Ideal S8x256x1408 .bf16 :=
  fun i => ∑ k : Fin 9216, x (ix3 (i 0) (i 1) k) * W (ix2 k (i 2))

/-- The packed zero points unpacked, as the reference does it: the two fields of each byte side by side. -/
def refZeros (z : Vec Ideal S72x704 .i8) : FVec Ideal S72x1408 .bf16 :=
  sitofp .bf16 (shapeCast S72x1408 (concatenate S72x704x2 2
    [⟨S72x704x1, (broadcastInDim S72x704x1 ![0, 1] bcast_S72x704_S72x704x1_0_1 (andi (extui 32 z natLt_8_32)
        (broadcastInDim S72x704 ![] bcast_S_S72x704 (constantI S_ 32 15#32))))⟩,
      ⟨S72x704x1, (broadcastInDim S72x704x1 ![0, 1] bcast_S72x704_S72x704x1_0_1 (Host.shrsi (extui 32 z natLt_8_32)
        (broadcastInDim S72x704 ![] bcast_S_S72x704 (constantI S_ 32 4#32))))⟩]
    concatenates_S72x704x1_S72x704x1_S72x704x2_d2) shapeCasts_S72x704x2_S72x1408)

/-- Half of the weights, as the reference computes them from codes and 36 rows of zero points and scales. -/
def refHalf (codes : IVec S4608x1408 32) (z s : FVec Ideal S36x1408 .bf16) : FVec Ideal S4608x1408 .bf16 :=
  shapeCast S4608x1408 (mulf (subf (shapeCast S36x128x1408 (sitofp .bf16 codes) shapeCasts_S4608x1408_S36x128x1408)
      (broadcastInDim S36x128x1408 ![0, 1, 2] bcast_S36x1x1408_S36x128x1408_0_1_2
        (broadcastInDim S36x1x1408 ![0, 2] bcast_S36x1408_S36x1x1408_0_2 z)))
    (broadcastInDim S36x128x1408 ![0, 1, 2] bcast_S36x1x1408_S36x128x1408_0_1_2
      (broadcastInDim S36x1x1408 ![0, 2] bcast_S36x1408_S36x1x1408_0_2 s))) shapeCasts_S36x128x1408_S4608x1408

/-- The reference's result over its arguments. -/
def refOut (x : FVec Ideal S8x256x9216 .bf16) (w : Vec Ideal S4608x1408 .i8) (s : FVec Ideal S72x1408 .bf16)
    (z : Vec Ideal S72x704 .i8) : Vec Ideal S8x256x1408 .bf16 :=
  truncf .bf16 (addf
    (Host.dotGeneral dot_S8x256x4608_S4608x1408_S8x256x1408_2_0_01_1_n_n none
      (extractStridedSlice S8x256x4608 ![0, 0, 0] x slices_S8x256x9216_S8x256x4608_0_0_0)
      (refHalf (andi (extui 32 w natLt_8_32) (broadcastInDim S4608x1408 ![] bcast_S_S4608x1408 (constantI S_ 32 15#32)))
        (extractStridedSlice S36x1408 ![0, 0] (refZeros z) slices_S72x1408_S36x1408_0_0)
        (extractStridedSlice S36x1408 ![0, 0] s slices_S72x1408_S36x1408_0_0)))
    (Host.dotGeneral dot_S8x256x4608_S4608x1408_S8x256x1408_2_0_01_1_n_n none
      (extractStridedSlice S8x256x4608 ![0, 0, 4608] x slices_S8x256x9216_S8x256x4608_0_0_4608)
      (refHalf (Host.shrsi (extui 32 w natLt_8_32) (broadcastInDim S4608x1408 ![] bcast_S_S4608x1408 (constantI S_ 32 4#32)))
        (extractStridedSlice S36x1408 ![36, 0] (refZeros z) slices_S72x1408_S36x1408_36_0)
        (extractStridedSlice S36x1408 ![36, 0] s slices_S72x1408_S36x1408_36_0)))) bitsLt_bf16_f32

/-- A byte's low field, as the reference computes it. -/
theorem sitofp_lo (b : BitVec 8) :
    FloatOps.sitofp (F := Ideal) .bf16 (IntOp.andi (b.setWidth 32) 15#32) = nib false b := by
  show (((IntOp.andi (b.setWidth 32) 15#32).toInt : ℝ) : EReal) = _
  rw [toInt_lo]; rfl

/-- A byte's high field, as the reference computes it. -/
theorem sitofp_hi (b : BitVec 8) :
    FloatOps.sitofp (F := Ideal) .bf16 (IntOp.shrsi .host (b.setWidth 32) 4#32) = nib true b := by
  show (((IntOp.shrsi .host (b.setWidth 32) 4#32).toInt : ℝ) : EReal) = _
  rw [toInt_hi_host]; rfl

/-- The reference's unpacked zero points: column `n` is the low field of byte `n / 2` for even `n`, else the high field. -/
theorem refZeros_apply (z : Vec Ideal S72x704 .i8) (g : Fin 72) (n : Fin 1408) : refZeros z (ix2 g n) = zpt z g n := by
  pointwise [refZeros]
  unfold zpt
  by_cases h : n.val % 2 < 1
  · have e : decide (n.val % 2 = 1) = false := decide_eq_false (by omega)
    rw [dif_pos h]
    exact (sitofp_lo _).trans (congrArg (fun b => nib b _) e.symm)
  · have e : decide (n.val % 2 = 1) = true := decide_eq_true (by omega)
    rw [dif_neg h]
    exact (sitofp_hi _).trans (congrArg (fun b => nib b _) e.symm)

/-- Half of the reference's weights, at a row and column. -/
theorem refHalf_apply (codes : IVec S4608x1408 32) (z s : FVec Ideal S36x1408 .bf16) (q : Fin 4608) (n : Fin 1408) :
    refHalf codes z s (ix2 q n) = (FloatOps.sitofp (F := Ideal) .bf16 (codes (ix2 q n)) - z (ix2 ⟨q.val / 128, by omega⟩ n))
      * s (ix2 ⟨q.val / 128, by omega⟩ n) := by
  pointwise [refHalf]

/-- The reference's result is `x` times the weights. -/
theorem refOut_eq (x : Vec Ideal S8x256x9216 .bf16) (w : Vec Ideal S4608x1408 .i8) (s : Vec Ideal S72x1408 .bf16)
    (z : Vec Ideal S72x704 .i8) : refOut x w s z = outA x (wts w s z) := by
  funext i
  idx_vars i
  pointwise [refOut, refHalf_apply, refZeros_apply]
  simp only [sitofp_lo, sitofp_hi]
  refine Eq.trans ?_ (Fin.sum_univ_two_halves 4608 4608 rfl
    (fun k : Fin 9216 => x (ix3 i0 i1 k) * wgt w (zptA z) (scl s) k i2)).symm
  refine congrArg₂ (· + ·) (Finset.sum_congr rfl fun k _ => congrArg _ ?_)
    (Finset.sum_congr rfl fun k _ => congrArg _ ?_)
  · exact (wgt_low w (zptA z) (scl s) ⟨k.val, by omega⟩ i2 k.isLt).symm
  · refine Eq.trans ?_ (wgt_high w (zptA z) (scl s) ⟨4608 + k.val, by omega⟩ i2 (by simp)).symm
    have ew : (⟨4608 + k.val - 4608, by omega⟩ : Fin 4608) = k := Fin.ext (by simp)
    have eg : (⟨36 + k.val / 128, by omega⟩ : Fin 72) = ⟨(4608 + k.val) / 128, by omega⟩ := Fin.ext (by simp; omega)
    show (nib true (w (ix2 k i2)) - zpt z _ i2) * s (ix2 _ i2)
      = (nib true (w (ix2 ⟨4608 + k.val - 4608, _⟩ i2)) - zpt z _ i2) * s (ix2 _ i2)
    rw [ew, eg]
    rfl

variable (m : (ℓ : Loc nD τ sig) → Buf (Elt Ideal) ℓ) (ρ : Dev nD → PrngReg)

/-- The reference's run: its result is `x` times the weights, its arguments unchanged. -/
theorem reference_run :
    θ_run (defs (F := Ideal)) (onTc (τ := τ) (main (F := Ideal))) ⟨m, fun _ => 0, ρ⟩ fun r => ∀ c : Dev nD,
      r.2.mem ((c.tc : Thread nD τ).loc main_v42)
        = outA (m ((c.tc : Thread nD τ).loc main_arg0)) (wts (m ((c.tc : Thread nD τ).loc main_arg1))
            (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (refOut_eq _ _ _ _), (h c).2⟩) (Cert.ReferenceIdeal.Value.run m ρ)

end Cert.Int4

end
-- ==== Proof.Result.lean ====
/-
  THE KERNEL'S RESULT: the array the grid leaves, cut back into batches.

  The kernel's array has one row for each row of each batch; the last host operation reshapes it. What it returns is `x`
  times the weights (`kernel_result`).
-/
module

public import proofs.«01_k».proof.Proof.Array
public import proofs.«01_k».proof.Proof.Reference

@[expose] public section

set_option maxRecDepth 16384

noncomputable section

namespace Cert.Int4

open Idealize.ShloMosaic Idealize.ShloMosaic.TcCoe Idealize.ShloMosaic.Tactic
open Cert.KernelIdeal Cert.KernelIdeal.Gen

/-- Cutting the 2048 rows into eight batches of 256. -/
theorem batches (x : Vec Ideal S8x256x9216 .bf16) (W : Vec Ideal S9216x1408 .bf16) :
    shapeCast S8x256x1408 (rowsA x W) shapeCasts_S2048x1408_S8x256x1408 = outA x W := by
  funext i
  idx_vars i
  pointwise []
  have eb : (⟨(i0.val * 256 + i1.val) / 256, by omega⟩ : Fin 8) = i0 := Fin.ext (by show (_ + _) / 256 = _; omega)
  have er : (⟨(i0.val * 256 + i1.val) % 256, by omega⟩ : Fin 256) = i1 := Fin.ext (by show (_ + _) % 256 = _; omega)
  show ∑ k : Fin 9216, x (ix3 ⟨(i0.val * 256 + i1.val) / 256, _⟩ ⟨(i0.val * 256 + i1.val) % 256, _⟩ k) * W (ix2 k i2) = _
  rw [eb, er]
  rfl

variable (m : (ℓ : Loc nD τ sig) → Buf (Elt Ideal) ℓ) (c : Dev nD)

/-- What the kernel returns is `x` times the weights. -/
theorem kernel_result :
    Pipeline.afterTail₀ cfgs (dats m) 0 (V0 m) [hostOps1] c main_v2
      = outA (m ((c : Thread nD τ).loc main_arg0)) (wtsM m c) := by
  refine Eq.trans ?_ (batches (m ((c : Thread nD τ).loc main_arg0)) (wtsM m c))
  rw [← final m c]
  have harr : Pipeline.withArrays (cfgs 0).spec c (V0 m c) (fun w => (dats m 0 c).arrAt w (cfgs 0).N)
      (Proc.tc.devRef main_v1) = (dats m 0 c).arrAt 4 cfg0.N :=
    Pipeline.withArrays_arr (cfgs 0).spec (by decide) c (V0 m c) (fun w => (dats m 0 c).arrAt w (cfgs 0).N) 4
  show StableHlo.after hostOps1 _ main_v2 = _
  after_results
  rw [harr]
  rfl

/-- The kernel's run: its result is `x` times the weights, its arguments unchanged. -/
theorem kernel_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v2) = outA (m ((c.tc : Thread nD τ).loc main_arg0)) (wtsM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨((h.1 c).2 main_v2 (by decide)).trans (kernel_result m c), h.2 c⟩)
    (θ_run_and (run_main m ρ) (unchanged m ρ))

end Cert.Int4

end
-- ==== Proof.lean ====
/-
  THE FIVE CLAIMS about the int4 linear kernel, put together: the frames of the kernel, of its ideal form and of the ideal
  reference, the ideal form being the kernel, and the two programs' equal results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import Idealize.ShloMosaic.Adequacy
public import Idealize.ShloMosaic.Init

@[expose] public section

noncomputable section

namespace Cert.Proof

open Idealize.ShloMosaic Idealize.SL.Sem Cert.Kernel

/-- The reference terminates without fault, leaves its arguments unchanged, and every counter ends at zero. -/
theorem reference_frame : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal arguments the kernel and the reference return the same array: `x` times the weights. -/
theorem same_result : Cert.algebraic_KernelIdeal_ReferenceIdeal := by
  intro m g m' g' _ hagree
  refine ⟨_, Cert.Int4.kernel_run m g, (θ_run Cert.ReferenceIdeal.defs _ _).mono
    (fun _ h c => ⟨(h c).1.trans ?_, (h c).2⟩) (Cert.Int4.reference_run m' g')⟩
  obtain ⟨e0, e1, e2, e3⟩ := hagree c
  rw [e0, e1, e2, e3]
  rfl

/-- The five claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    same_result⟩

end Cert.Proof

end
